-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S3072 : Shape := ⟨1, ![3072]⟩
abbrev S_ : Shape := ⟨0, ![]⟩
abbrev S1024x2048 : Shape := ⟨2, ![1024, 2048]⟩
abbrev S2048 : Shape := ⟨1, ![2048]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  slices_S1024x3072_S1024x2048_0_0 : S1024x3072.Slices ![0, 0] S1024x2048
  bcast_S_S1024x2048 : S_.BroadcastsInDim S1024x2048 (![] : Fin 0 → Fin S1024x2048.rank)
  reducesTo_S1024x2048_S_d0_1 : S1024x2048.ReducesTo [0, 1] S_
  slices_S3072_S2048_0 : S3072.Slices ![0] S2048
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2x2048x1024 .f32) (main_arg1 : FVec F S1024x3072 .f32) (main_arg2 : FVec F S3072 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x2048 .f32 := (extractStridedSlice S1024x2048 ![0, 0] · slices_S1024x3072_S1024x2048_0_0) main_arg1
  let main_v5 : FVec F S1024x2048 .f32 := Host.absf main_v4
  let main_cst_0 : FVec F S_ .f32 := constant S_ .f32 0x7F800000#32
  let main_v6 : FVec F S1024x2048 .f32 := broadcastInDim S1024x2048 ![] bcast_S_S1024x2048 main_cst_0
  let main_v7 : IVec S1024x2048 1 := cmpf .olt main_v5 main_v6
  let main_c_1 : IVec S_ 1 := constantI S_ 1 1#1
  let main_v8 : IVec S_ 1 := (fun x v => Host.reduce IntOp.andi x v reducesTo_S1024x2048_S_d0_1 h_S_) main_v7 main_c_1
  let main_v9 : FVec F S2048 .f32 := (extractStridedSlice S2048 ![0] · slices_S3072_S2048_0) main_arg2
  let main_v10 : FVec F S2048 .f32 := Host.absf main_v9
  let main_cst_2 : FVec F S_ .f32 := constant S_ .f32 0x7F800000#32
  let main_v11 : FVec F S2048 .f32 := broadcastInDim S2048 ![] bcast_S_S2048 main_cst_2
  let main_v12 : IVec S2048 1 := cmpf .olt main_v10 main_v11
  let main_c_3 : IVec S_ 1 := constantI S_ 1 1#1
  let main_v13 : IVec S_ 1 := (fun x v => Host.reduce IntOp.andi x v reducesTo_S2048_S_d0 h_S_) main_v12 main_c_3
  let main_v14 : IVec S_ 1 := andi main_v3 main_v8
  let main_v15 : IVec S_ 1 := andi main_v14 main_v13
  main_v15
-- ==== Kernel.lean ====
abbrev S2x2048x1024 : Shape := ⟨3, ![2, 2048, 1024]⟩
abbrev S1024x3072 : Shape := ⟨2, ![1024, 3072]⟩
abbrev S3072 : Shape := ⟨1, ![3072]⟩
abbrev S3x4x1x256 : Shape := ⟨4, ![3, 4, 1, 256]⟩
abbrev S2x16x2048x64 : Shape := ⟨4, ![2, 16, 2048, 64]⟩
abbrev S1x2048x1024 : Shape := ⟨3, ![1, 2048, 1024]⟩
abbrev S1024x256 : Shape := ⟨2, ![1024, 256]⟩
abbrev S1x1x1x256 : Shape := ⟨4, ![1, 1, 1, 256]⟩
abbrev S1x4x2048x64 : Shape := ⟨4, ![1, 4, 2048, 64]⟩
abbrev S2048x256 : Shape := ⟨2, ![2048, 256]⟩
abbrev S2048x1024 : Shape := ⟨2, ![2048, 1024]⟩
abbrev S1x256 : Shape := ⟨2, ![1, 256]⟩
abbrev S2048x64 : Shape := ⟨2, ![2048, 64]⟩
abbrev S2048x128 : Shape := ⟨2, ![2048, 128]⟩
abbrev S2048x2048 : Shape := ⟨2, ![2048, 2048]⟩
abbrev S1x1x2048x64 : Shape := ⟨4, ![1, 1, 2048, 64]⟩

abbrev nBuf : Space → Nat
  | .hbm => 6
  | .vmem => 18
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S3x4x1x256, .f32⟩
  | .hbm, ⟨4, _⟩ => ⟨S2x16x2048x64, .f32⟩
  | .hbm, ⟨5, _⟩ => ⟨S2x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x1x1x256, .f32⟩
  | .local _ .vmem, ⟨9, _⟩ => ⟨S1x1x1x256, .f32⟩
  | .local _ .vmem, ⟨10, _⟩ => ⟨S1x1x1x256, .f32⟩
  | .local _ .vmem, ⟨11, _⟩ => ⟨S1x1x1x256, .f32⟩
  | .local _ .vmem, ⟨12, _⟩ => ⟨S1x1x1x256, .f32⟩
  | .local _ .vmem, ⟨13, _⟩ => ⟨S1x1x1x256, .f32⟩
  | .local _ .vmem, ⟨14, _⟩ => ⟨S1x4x2048x64, .f32⟩
  | .local _ .vmem, ⟨15, _⟩ => ⟨S1x4x2048x64, .f32⟩
  | .local _ .vmem, ⟨16, _⟩ => ⟨S2048x256, .f32⟩
  | .local _ .vmem, ⟨17, _⟩ => ⟨S2048x256, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x2048x1024 : Shape := ⟨3, ![2, 2048, 1024]⟩
abbrev S1024x3072 : Shape := ⟨2, ![1024, 3072]⟩
abbrev S3072 : Shape := ⟨1, ![3072]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S3072, .f32⟩
  | .hbm, ⟨3, _⟩ => ⟨S2x2048x3072, .f32⟩
  | .hbm, ⟨4, _⟩ => ⟨S1x1x3072, .f32⟩
  | .hbm, ⟨5, _⟩ => ⟨S2x2048x3072, .f32⟩
  | .hbm, ⟨6, _⟩ => ⟨S2x2048x3072, .f32⟩
  | .hbm, ⟨7, _⟩ => ⟨S2x2048x3x16x64, .f32⟩
  | .hbm, ⟨8, _⟩ => ⟨S3x2x16x2048x64, .f32⟩
  | .hbm, ⟨9, _⟩ => ⟨S1x2x16x2048x64, .f32⟩
  | .hbm, ⟨10, _⟩ => ⟨S2x16x2048x64, .f32⟩
  | .hbm, ⟨11, _⟩ => ⟨S1x2x16x2048x64, .f32⟩
  | .hbm, ⟨12, _⟩ => ⟨S2x16x2048x64, .f32⟩
  | .hbm, ⟨13, _⟩ => ⟨S1x2x16x2048x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S_, .f32⟩
  | .hbm, ⟨19, _⟩ => ⟨S2x16x2048, .f32⟩
  | .hbm, ⟨20, _⟩ => ⟨S2x16x2048, .f32⟩
  | .hbm, ⟨21, _⟩ => ⟨S2x16x2048x1, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S2x16x2048x1, .f32⟩
  | .hbm, ⟨28, _⟩ => ⟨S2x16x2048x2048, .f32⟩
  | .hbm, ⟨29, _⟩ => ⟨S2x16x2048x2048, .f32⟩
  | .hbm, ⟨30, _⟩ => ⟨S2x16x2048x64, .f32⟩
  | .hbm, ⟨31, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.Softmax.lean ====
/- The mathematics of one attention row, over the extended reals: a softmax that subtracts a real number from every
   score, divides each weight by their sum and then averages the values is the quotient of two unshifted sums. Nothing
   here mentions a program. -/
module

public import Idealize.ShloMosaic.PureOps.Ideal

@[expose] public section

noncomputable section

namespace Cert.Softmax

open Idealize.ShloMosaic

/-- An extended real that is neither of the two infinities. -/
def IsReal (x : EReal) : Prop := ∃ r : ℝ, x = (r : EReal)

/-- Zero is real. -/
theorem IsReal.zero : IsReal 0 := ⟨0, by norm_cast⟩

/-- The sum of two real numbers is real. -/
theorem IsReal.add {x y : EReal} (hx : IsReal x) (hy : IsReal y) : IsReal (x + y) := by
  obtain ⟨r, rfl⟩ := hx; obtain ⟨s, rfl⟩ := hy; exact ⟨r + s, by norm_cast⟩

/-- The product of two real numbers is real. -/
theorem IsReal.mul {x y : EReal} (hx : IsReal x) (hy : IsReal y) : IsReal (x * y) := by
  obtain ⟨r, rfl⟩ := hx; obtain ⟨s, rfl⟩ := hy; exact ⟨r * s, by norm_cast⟩

/-- The larger of two real numbers is real. -/
theorem IsReal.max {x y : EReal} (hx : IsReal x) (hy : IsReal y) : IsReal (Max.max x y) := by
  rcases max_choice x y with h | h <;> rw [h] <;> assumption

/-- A finite sum of real numbers is real. -/
theorem IsReal.sum {ι : Type*} (t : Finset ι) (f : ι → EReal) (h : ∀ i ∈ t, IsReal (f i)) : IsReal (∑ i ∈ t, f i) := by
  classical
  induction t using Finset.induction_on with
  | empty => simpa using IsReal.zero
  | insert a t ha ih =>
    rw [Finset.sum_insert ha]
    exact (h a (Finset.mem_insert_self a t)).add (ih fun i hi => h i (Finset.mem_insert_of_mem hi))

/-- The maximum of a nonempty finite family of real numbers, started from minus infinity, is real. -/
theorem IsReal.fold_max {ι : Type*} (t : Finset ι) (ht : t.Nonempty) (f : ι → EReal) (h : ∀ i ∈ t, IsReal (f i)) :
    IsReal (t.fold Max.max ⊥ f) := by
  classical
  induction ht using Finset.Nonempty.cons_induction with
  | singleton a => simpa using h a
  | cons a t ha hne ih =>
    rw [Finset.fold_cons]
    exact (h a (Finset.mem_cons_self a t)).max (ih fun i hi => h i (Finset.mem_cons_of_mem hi))

/-- A nonnegative real factor passes through a finite sum of extended reals, whatever its terms are. -/
theorem coe_mul_sum {ι : Type*} (t : Finset ι) {c : ℝ} (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (by exact_mod_cast hc) (EReal.coe_ne_top c) _ _

/-- A finite sum of real numbers is their sum as real numbers. -/
theorem coe_sum {ι : Type*} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- One row of attention: with real scores and a real shift, the weighted mean taken with the normalised shifted
    weights is the quotient of the unshifted weighted sum by the unshifted sum of weights. The values averaged may be
    infinite. -/
theorem row_eq {n : ℕ} (hn : 0 < n) (s v : Fin n → EReal) (M : EReal) (hs : ∀ j, IsReal (s j)) (hM : IsReal M) :
    ∑ j, Ideal.div (Ideal.exp (s j - M)) (∑ l, Ideal.exp (s l - M)) * v j
      = Ideal.div (∑ j, Ideal.exp (s j) * v j) (∑ j, Ideal.exp (s j)) := by
  choose r hr using hs
  obtain ⟨μ, rfl⟩ := hM
  obtain rfl : s = fun j => (r j : EReal) := funext hr
  haveI : Nonempty (Fin n) := ⟨⟨0, hn⟩⟩
  have hpos : 0 < ∑ j, Real.exp (r j) := Finset.sum_pos (fun j _ => Real.exp_pos _) Finset.univ_nonempty
  have hpos' : 0 < ∑ j, Real.exp (r j - μ) := Finset.sum_pos (fun j _ => Real.exp_pos _) Finset.univ_nonempty
  have hshift : ∑ j, Real.exp (r j - μ) = (∑ j, Real.exp (r j)) * Real.exp (-μ) := by
    rw [Finset.sum_mul]
    exact Finset.sum_congr rfl fun j _ => by rw [← Real.exp_add, sub_eq_add_neg]
  simp only [← EReal.coe_sub, Ideal.exp_coe, coe_sum]
  rw [Ideal.div_coe hpos.ne', EReal.mul_comm, coe_mul_sum _ (by positivity)]
  refine Finset.sum_congr rfl fun j _ => ?_
  rw [Ideal.div_coe hpos'.ne', ← EReal.coe_mul, ← mul_assoc, ← EReal.coe_mul, hshift]
  congr 2
  rw [sub_eq_add_neg, Real.exp_add]
  have := (Real.exp_pos (-μ)).ne'
  field_simp

end Cert.Softmax

end
-- ==== Proof.Attention.lean ====
/- Multi-head attention as a function of the three argument arrays, over the extended reals, written once for both
   programs: a projection, a score, the head's output as a quotient of two sums, and the equation of that quotient with
   the shifted softmax. -/
module

public import proofs.«01_k».proof.Proof.Softmax
public import Idealize.ShloMosaic.Lib.Pointwise

@[expose] public section

set_option maxRecDepth 16384

noncomputable section

namespace Cert.Attention

open Idealize.ShloMosaic Cert.Softmax

/-- The column of the joint weight matrix that holds lane `d` of head `h` of section `s` (queries, keys, values). -/
def col (s : Fin 3) (h : Fin 16) (d : Fin 64) : Fin 3072 := ⟨s.val * 1024 + h.val * 64 + d.val, by omega⟩

variable (X : FVec Ideal ⟨3, ![2, 2048, 1024]⟩ .f32) (W : FVec Ideal ⟨2, ![1024, 3072]⟩ .f32)
  (b : FVec Ideal ⟨1, ![3072]⟩ .f32)

/-- Token `i` of batch `n`, projected on column `c`. -/
def proj (n : Fin 2) (i : Fin 2048) (c : Fin 3072) : EReal := (∑ k : Fin 1024, X (ix3 n i k) * W (ix2 k c)) + b (ix1 c)

/-- The score of query `i` against key `j` in head `h`. -/
def score (n : Fin 2) (h : Fin 16) (i j : Fin 2048) : EReal :=
  ∑ e : Fin 64, proj X W b n i (col 0 h e) * proj X W b n j (col 1 h e)

/-- Head `h`'s output for query `i`, lane `d`: the values weighted by the exponentials of the scores, over the sum of
    these exponentials. -/
def att (n : Fin 2) (h : Fin 16) (i : Fin 2048) (d : Fin 64) : EReal :=
  Ideal.div (∑ j : Fin 2048, Ideal.exp (score X W b n h i j) * proj X W b n j (col 2 h d))
    (∑ j : Fin 2048, Ideal.exp (score X W b n h i j))

/-- Every number that enters a query or a key is real: the tokens, and the first 2048 columns of the weights and of the
    bias. -/
structure FiniteArgs : Prop where
  x : ∀ i, IsReal (X i)
  w : ∀ (k : Fin 1024) (c : Fin 3072), c.val < 2048 → IsReal (W (ix2 k c))
  b : ∀ c : Fin 3072, c.val < 2048 → IsReal (b (ix1 c))

variable {X W b}

/-- A query's or a key's entry is real. -/
theorem FiniteArgs.proj (hf : FiniteArgs X W b) (n : Fin 2) (i : Fin 2048) (c : Fin 3072) (hc : c.val < 2048) :
    IsReal (Attention.proj X W b n i c) :=
  (IsReal.sum _ _ fun k _ => (hf.x _).mul (hf.w k c hc)).add (hf.b c hc)

/-- A score is real. -/
theorem FiniteArgs.score (hf : FiniteArgs X W b) (n : Fin 2) (h : Fin 16) (i j : Fin 2048) :
    IsReal (Attention.score X W b n h i j) :=
  IsReal.sum _ _ fun e _ => (hf.proj n i _ (by simp [col]; omega)).mul (hf.proj n j _ (by simp [col]; omega))

/-- The shifted softmax, averaged over the values, is the head's output: the shift is the row's greatest score, taken
    from minus infinity. -/
theorem softmax_eq_att (hf : FiniteArgs X W b) (n : Fin 2) (h : Fin 16) (i : Fin 2048) (d : Fin 64) (M : EReal)
    (hM : M = max ⊥ (Finset.univ.fold max ⊥ fun j : Fin 2048 => Attention.score X W b n h i j)) :
    ∑ j : Fin 2048, Ideal.div (Ideal.exp (Attention.score X W b n h i j - M))
        (∑ l : Fin 2048, Ideal.exp (Attention.score X W b n h i l - M)) * Attention.proj X W b n j (col 2 h d)
      = att X W b n h i d := by
  have hreal : IsReal M := by
    rw [hM, max_eq_right bot_le]
    exact IsReal.fold_max _ ⟨0, Finset.mem_univ _⟩ _ fun j _ => hf.score n h i j
  exact row_eq (by norm_num) _ _ M (fun j => hf.score n h i j) hreal

end Cert.Attention

end
-- ==== Proof.Block.lean ====
/- What one block computes: the body's payloads read at an index, over the extended reals. -/
module

public import proofs.«01_k».proof.Proof.Gen.KernelIdeal.Skeleton
public import proofs.«01_k».proof.Proof.Attention

@[expose] public section

set_option maxRecDepth 16384

noncomputable section

namespace Cert.KernelIdeal.Value

open Idealize.ShloMosaic Cert.KernelIdeal Cert.KernelIdeal.Gen

/-- A block of tokens projected on one column of a block of weights. -/
def blockProj (x : FVec Ideal S1x2048x1024 .f32) (w : FVec Ideal S1024x256 .f32) (b : FVec Ideal S1x1x1x256 .f32)
    (i : Fin 2048) (c : Fin 256) : EReal :=
  ∑ k : Fin 1024, x (ix3 0 i k) * w (ix2 k c) + b (ix4 0 0 0 c)

/-- The keys the body stores are the block's projection. -/
theorem keys_at (x : FVec Ideal S1x2048x1024 .f32) (w : FVec Ideal S1024x256 .f32) (b : FVec Ideal S1x1x1x256 .f32)
    (i : Fin 2048) (c : Fin 256) : k0_pay4 (F := Ideal) x w b (ix2 i c) = blockProj x w b i c := by
  pointwise [k0_pay4, k0_pay3, blockProj]

/-- The values the body stores are the block's projection. -/
theorem values_at (x : FVec Ideal S1x2048x1024 .f32) (w : FVec Ideal S1024x256 .f32) (b : FVec Ideal S1x1x1x256 .f32)
    (i : Fin 2048) (c : Fin 256) : k0_pay5 (F := Ideal) x w b (ix2 i c) = blockProj x w b i c := by
  pointwise [k0_pay5, k0_pay3, blockProj]

/-- The queries the body computes are the block's projection. -/
theorem queries_at (x : FVec Ideal S1x2048x1024 .f32) (w : FVec Ideal S1024x256 .f32) (b : FVec Ideal S1x1x1x256 .f32)
    (i : Fin 2048) (c : Fin 256) : k0_pay6 (F := Ideal) x w b (ix2 i c) = blockProj x w b i c := by
  pointwise [k0_pay6, k0_pay3, blockProj]

/-- Lane `d` of the `o`-th of the four heads a block holds side by side. -/
def lane (o : Fin 4) (d : Fin 64) : Fin 256 := ⟨o.val * 64 + d.val, by omega⟩

/-- One head of a block: its own lanes of the queries against its keys, the values weighted by the exponentials of the
    scores, over the sum of these exponentials. -/
def headOf (q : Fin 2048 → Fin 256 → EReal) (k : Fin 2048 → Fin 64 → EReal) (v : Fin 2048 → Fin 256 → EReal) (o : Fin 4)
    (i : Fin 2048) (d : Fin 64) : EReal :=
  Ideal.div
    (∑ j : Fin 2048, Ideal.exp (∑ e : Fin 64, q i (lane o e) * k j e) * v j (lane o d))
    (∑ j : Fin 2048, Ideal.exp (∑ e : Fin 64, q i (lane o e) * k j e))

/-- The entries of a matrix, by row and lane. -/
def entries {a b : ℕ} (x : FVec Ideal ⟨2, ![a, b]⟩ .f32) (i : Fin a) (l : Fin b) : EReal := x (ix2 i l)

variable (q v : FVec Ideal S2048x256 .f32) (k : FVec Ideal S2048x64 .f32) (r s : Fin 1) (i : Fin 2048) (d : Fin 64)

/-- The first head's store: the column of ones makes the product's next lanes the sum of the exponentials. -/
theorem head0_at : k0_pay9 (F := Ideal) q v k (ix4 r s i d) = headOf (entries q) (entries k) (entries v) 0 i d := by
  pointwise [k0_pay9, k0_pay7, k0_pay8, headOf, entries, lane]

/-- The second head's store. -/
theorem head1_at : k0_pay10 (F := Ideal) q v k (ix4 r s i d) = headOf (entries q) (entries k) (entries v) 1 i d := by
  pointwise [k0_pay10, k0_pay7, k0_pay8, headOf, entries, lane]

/-- The third head's store. -/
theorem head2_at :
    k0_pay1 (F := Ideal) (k0_pay11 q v k) (ix4 r s i d) = headOf (entries q) (entries k) (entries v) 2 i d := by
  pointwise [k0_pay1, k0_pay11, k0_pay7, k0_pay8, headOf, entries, lane]

/-- The fourth head's store. -/
theorem head3_at :
    k0_pay2 (F := Ideal) q v k0_pay7 k0_pay8 k (ix4 r s i d) = headOf (entries q) (entries k) (entries v) 3 i d := by
  pointwise [k0_pay2, k0_pay7, k0_pay8, headOf, entries, lane]

end Cert.KernelIdeal.Value

end
-- ==== Proof.Array.lean ====
/- What the kernel's result array holds: block by block, the attention of the argument arrays. -/
module

public import proofs.«01_k».proof.Proof.Gen.KernelIdeal.Frame
public import proofs.«01_k».proof.Proof.Block
public import Idealize.ShloMosaic.Lib.Pipeline.ValueKit
public import Idealize.ShloMosaic.Lib.Pipeline.ReadBack
public import Idealize.ShloMosaic.Lib.Claim

@[expose] public section

set_option maxRecDepth 16384

noncomputable section

namespace Cert.KernelIdeal.Value

open Idealize.ShloMosaic Idealize.ShloMosaic.TcCoe Idealize.SL.Sem Cert.KernelIdeal Cert.KernelIdeal.Gen Cert.Attention
variable (m : (ℓ : Loc nD τ sig) → Buf (Elt Ideal) ℓ)

/-- Every window's block at a grid point: the batch is the point's quotient by four, the group of heads its remainder. -/
theorem idx : ∀ t : Fin cfg0.N, win0_0.index t = ![t.val / 4, 0, 0] ∧ win0_1.index t = ![0, t.val % 4]
    ∧ win0_2.index t = ![0, 4 + t.val % 4] ∧ win0_3.index t = ![0, 8 + t.val % 4]
    ∧ win0_4.index t = ![0, t.val % 4, 0, 0] ∧ win0_5.index t = ![1, t.val % 4, 0, 0]
    ∧ win0_6.index t = ![2, t.val % 4, 0, 0] ∧ win0_7.index t = ![t.val / 4, t.val % 4, 0, 0] :=
  (by decide +kernel : ∀ t : Fin grid0.N, _)

/-- The bias as the region finds it: the third argument, split by section and group of heads. -/
theorem bias_entry (c : Dev nD) : V m c main_v0
    = shapeCast S3x4x1x256 (m ((c : Thread nD τ).loc main_arg2)) shapeCasts_S3072_S3x4x1x256 := by
  show StableHlo.after hostOps0 (fun r => m (c, r)) (Proc.devRef .tc main_v0) = _
  after_results
  rfl

/-- An entry of the bias as the region finds it: section `s`, the group of head `h`, and the head's lane `d` among the
    group's. -/
theorem bias_at (c : Dev nD) (s : Fin 3) (h : Fin 16) (d : Fin 64) (e : S3x4x1x256.Idx) (h0 : (e 0 : ℕ) = s.val)
    (h13 : (e 1 : ℕ) * 256 + (e 3 : ℕ) = h.val * 64 + d.val) :
    V m c main_v0 e = m ((c : Thread nD τ).loc main_arg2) (ix1 (col s h d)) := by
  rw [bias_entry]
  idx_vars e
  pointwise
  blk_ext [col]

/-- A block's projection is the arguments' projection when the block's reads are the arguments' reads. -/
theorem blockProj_eq {X : FVec Ideal S2x2048x1024 .f32} {W : FVec Ideal S1024x3072 .f32} {B : FVec Ideal S3072 .f32}
    {x : FVec Ideal S1x2048x1024 .f32} {w : FVec Ideal S1024x256 .f32} {b : FVec Ideal S1x1x1x256 .f32}
    {n : Fin 2} {i : Fin 2048} {l : Fin 256} {j : Fin 3072} (hx : ∀ k, x (ix3 0 i k) = X (ix3 n i k))
    (hw : ∀ k, w (ix2 k l) = W (ix2 k j)) (hb : b (ix4 0 0 0 l) = B (ix1 j)) :
    blockProj x w b i l = proj X W B n i j := by
  unfold blockProj proj
  rw [hb]
  simp only [hx, hw]

variable (c : Dev nD) (t : Fin cfg0.N) (n : Fin 2) (hn : n.val = t.val / 4) (h : Fin 16) (o : Fin 4)
  (hh : h.val = t.val % 4 * 4 + o.val) (i : Fin 2048) (d : Fin 64)
include hn

/-- The staged tokens are those of the point's batch. -/
theorem tokens_at (k : Fin 1024) : iblk m c 0 t (ix3 0 i k) = m ((c : Thread nD τ).loc main_arg0) (ix3 n i k) := by
  blk_ext [iblk, V, idx t]

include hh

/-- The point's queries are the arguments' projections on the first section of columns. -/
theorem query_eq : blockProj (iblk m c 0 t) (iblk m c 1 t) (iblk m c 4 t) i (lane o d)
    = proj (m ((c : Thread nD τ).loc main_arg0)) (m ((c : Thread nD τ).loc main_arg1))
        (m ((c : Thread nD τ).loc main_arg2)) n i (col 0 h d) := by
  refine blockProj_eq (tokens_at m c t n hn i) (fun k => ?_) (bias_at m c 0 h d _ ?_ ?_)
  · blk_ext [iblk, V, idx t, lane, col]
  · blk_simp [idx t]
    rfl
  · blk_simp [idx t, lane]
    simp only [Fin.val_zero, add_zero]
    omega

/-- The point's keys are the arguments' projections on the second section of columns. -/
theorem key_eq : blockProj (iblk m c 0 t) (iblk m c 2 t) (iblk m c 5 t) i (lane o d)
    = proj (m ((c : Thread nD τ).loc main_arg0)) (m ((c : Thread nD τ).loc main_arg1))
        (m ((c : Thread nD τ).loc main_arg2)) n i (col 1 h d) := by
  refine blockProj_eq (tokens_at m c t n hn i) (fun k => ?_) (bias_at m c 1 h d _ ?_ ?_)
  · blk_ext [iblk, V, idx t, lane, col]
  · blk_simp [idx t]
    rfl
  · blk_simp [idx t, lane]
    simp only [Fin.val_zero, add_zero]
    omega

/-- The point's values are the arguments' projections on the third section of columns. -/
theorem value_eq : blockProj (iblk m c 0 t) (iblk m c 3 t) (iblk m c 6 t) i (lane o d)
    = proj (m ((c : Thread nD τ).loc main_arg0)) (m ((c : Thread nD τ).loc main_arg1))
        (m ((c : Thread nD τ).loc main_arg2)) n i (col 2 h d) := by
  refine blockProj_eq (tokens_at m c t n hn i) (fun k => ?_) (bias_at m c 2 h d _ ?_ ?_)
  · blk_ext [iblk, V, idx t, lane, col]
  · blk_simp [idx t]
    rfl
  · blk_simp [idx t, lane]
    simp only [Fin.val_zero, add_zero]
    omega

/-- One head of the point's block is that head's attention of the arguments. -/
theorem head_eq : headOf (entries (k0_pay6 (iblk m c 0 t) (iblk m c 1 t) (iblk m c 4 t)))
      (fun j e => entries (k0_pay4 (iblk m c 0 t) (iblk m c 2 t) (iblk m c 5 t)) j (lane o e))
      (entries (k0_pay5 (iblk m c 0 t) (iblk m c 3 t) (iblk m c 6 t))) o i d
    = att (m ((c : Thread nD τ).loc main_arg0)) (m ((c : Thread nD τ).loc main_arg1))
        (m ((c : Thread nD τ).loc main_arg2)) n h i d := by
  unfold headOf att score entries
  simp only [queries_at, keys_at, values_at, query_eq m c t n hn h o hh, key_eq m c t n hn h o hh,
    value_eq m c t n hn h o hh]

omit hn hh

/-- A stored head, whose keys were read back from the lanes `o` of the stored keys, at the block's own index. -/
theorem stored_eq {q K v : FVec Ideal S2048x256 .f32} {k : FVec Ideal S2048x64 .f32} {o y1 : Fin 4} {x2 y2 : Fin 2048}
    {x3 y3 : Fin 64} (h1 : y1 = o) (h2 : y2 = x2) (h3 : y3 = x3)
    (hk : ∀ j e, k (ix2 j e) = K (ix2 j (lane o e))) :
    headOf (entries q) (entries k) (entries v) o x2 x3
      = headOf (entries q) (fun j e => entries K j (lane y1 e)) (entries v) y1 y2 y3 := by
  subst h1 h2 h3
  exact congrArg (fun f => headOf (entries q) f (entries v) y1 y2 y3) (funext fun j => funext fun e => hk j e)

/-- What the body leaves in the output's block at a grid point: head `y 1` of the point's queries, keys and values. -/
theorem outs_at (y : S1x4x2048x64.Idx) :
    outsAt0 m c t y = headOf (entries (k0_pay6 (iblk m c 0 t) (iblk m c 1 t) (iblk m c 4 t)))
      (fun j e => entries (k0_pay4 (iblk m c 0 t) (iblk m c 2 t) (iblk m c 5 t)) j (lane (y 1) e))
      (entries (k0_pay5 (iblk m c 0 t) (iblk m c 3 t) (iblk m c 6 t))) (y 1) (y 2) (y 3) := by
  unfold outsAt0
  frame_out [↓View.readCov_fill]
  idx_vars y
  canon_tiles x h
  all_goals idx_vars x
  case piece0 =>
    exact (head3_at _ _ _ _ _ _ _).trans
      (stored_eq (Fin.ext (by omega)) (Fin.ext h2) (Fin.ext h3) fun j e => by pointwise [lane])
  case piece1 =>
    exact (head2_at _ _ _ _ _ _ _).trans
      (stored_eq (Fin.ext (by omega)) (Fin.ext h2) (Fin.ext h3) fun j e => by pointwise [lane])
  case piece2 =>
    exact (head1_at _ _ _ _ _ _ _).trans
      (stored_eq (Fin.ext (by omega)) (Fin.ext h2) (Fin.ext h3) fun j e => by pointwise [lane])
  case piece3 =>
    exact (head0_at _ _ _ _ _ _ _).trans
      (stored_eq (Fin.ext (by omega)) (Fin.ext h2) (Fin.ext h3) fun j e => by pointwise [lane])

/-- The kernel's result array before its last reshape is the attention of the arguments. -/
theorem final (c : Dev nD) : (dats m 0 c).arrAt 7 (cfgs 0).N = fun j : S2x16x2048x64.Idx =>
    att (m ((c : Thread nD τ).loc main_arg0)) (m ((c : Thread nD τ).loc main_arg1))
      (m ((c : Thread nD τ).loc main_arg2)) (j 0) (j 1) (j 2) (j 3) := by
  refine (dats m 0 c).arrAt_eq_of_covers 7 _ (by decide +kernel) fun t _ y => ?_
  blk_simp
  rw [after0_7, outs_at]
  have ht : t.val < 8 := t.isLt
  idx_vars y
  refine (head_eq m c t ⟨t.val / 4, by omega⟩ rfl ⟨t.val % 4 * 4 + y1.val, by omega⟩ y1 rfl y2 y3).trans ?_
  congr 1 <;> refine Fin.ext ?_ <;> blk_simp [idx t]

/-- The program's result is the last reshape of that array. -/
theorem result (c : Dev nD) : Pipeline.afterTail₀ cfgs (dats m) 0 (V0 m) [hostOps1] c main_v2
    = shapeCast S2x2048x1024 (fun j : S2x16x2048x64.Idx =>
        att (m ((c : Thread nD τ).loc main_arg0)) (m ((c : Thread nD τ).loc main_arg1))
          (m ((c : Thread nD τ).loc main_arg2)) (j 0) (j 1) (j 2) (j 3)) shapeCasts_S2x16x2048x64_S2x2048x1024 := by
  have h : Pipeline.withArrays (cfgs 0).spec c (V0 m c) (fun w => (dats m 0 c).arrAt w (cfgs 0).N)
      (Proc.devRef .tc main_v1) = _ :=
    ((dats m 0 c).withArrays_arrAt sharedIn0 (V0 m c) (A_eq m c) 7).trans (final m c)
  unfold Pipeline.afterTail₀
  show StableHlo.after hostOps1 _ _ = _
  after_results
  rw [h]
  rfl

end Cert.KernelIdeal.Value

end
-- ==== Proof.Ref.lean ====
/- What the reference computes: its composed term, stage by stage, read at an index. -/
module

public import proofs.«01_k».proof.Proof.Gen.ReferenceIdeal.Run
public import proofs.«01_k».proof.Proof.Attention

@[expose] public section

set_option maxRecDepth 16384

noncomputable section

namespace Cert.ReferenceIdeal.Value

open Idealize.ShloMosaic Cert.ReferenceIdeal Cert.ReferenceIdeal.Gen Cert.Attention Cert.Softmax

/-- The projections of every token, laid out by section, batch, head, token and lane. -/
def qkv (X : FVec Ideal S2x2048x1024 .f32) (W : FVec Ideal S1024x3072 .f32) (b : FVec Ideal S3072 .f32) :
    FVec Ideal S3x2x16x2048x64 .f32 :=
  transpose S3x2x16x2048x64 [2, 0, 3, 1, 4]
    (shapeCast S2x2048x3x16x64
      (addf (Host.dotGeneral dot_S2x2048x1024_S1024x3072_S2x2048x3072_2_0_01_1_n_n none X W)
        (broadcastInDim S2x2048x3072 ![0, 1, 2] bcast_S1x1x3072_S2x2048x3072_0_1_2
          (broadcastInDim S1x1x3072 ![2] bcast_S3072_S1x1x3072_2 b)))
      shapeCasts_S2x2048x3072_S2x2048x3x16x64)
    transposes_S2x2048x3x16x64_S3x2x16x2048x64_2_0_3_1_4

/-- An entry of the projections is the projection on that section's, head's and lane's column. -/
theorem qkv_at (X : FVec Ideal S2x2048x1024 .f32) (W : FVec Ideal S1024x3072 .f32) (b : FVec Ideal S3072 .f32)
    (s : Fin 3) (n : Fin 2) (h : Fin 16) (i : Fin 2048) (d : Fin 64) :
    qkv X W b (ix5 s n h i d) = proj X W b n i (col s h d) := by
  pointwise [qkv, proj, col]

/-- The queries' section of the projections. -/
abbrev section0 (P : FVec Ideal S3x2x16x2048x64 .f32) : FVec Ideal S2x16x2048x64 .f32 :=
  shapeCast S2x16x2048x64
    (extractStridedSlice S1x2x16x2048x64 ![0, 0, 0, 0, 0] P slices_S3x2x16x2048x64_S1x2x16x2048x64_0_0_0_0_0)
    shapeCasts_S1x2x16x2048x64_S2x16x2048x64

/-- The keys' section of the projections. -/
abbrev section1 (P : FVec Ideal S3x2x16x2048x64 .f32) : FVec Ideal S2x16x2048x64 .f32 :=
  shapeCast S2x16x2048x64
    (extractStridedSlice S1x2x16x2048x64 ![1, 0, 0, 0, 0] P slices_S3x2x16x2048x64_S1x2x16x2048x64_1_0_0_0_0)
    shapeCasts_S1x2x16x2048x64_S2x16x2048x64

/-- The values' section of the projections. -/
abbrev section2 (P : FVec Ideal S3x2x16x2048x64 .f32) : FVec Ideal S2x16x2048x64 .f32 :=
  shapeCast S2x16x2048x64
    (extractStridedSlice S1x2x16x2048x64 ![2, 0, 0, 0, 0] P slices_S3x2x16x2048x64_S1x2x16x2048x64_2_0_0_0_0)
    shapeCasts_S1x2x16x2048x64_S2x16x2048x64

/-- The scores of every query against every key of its batch and head. -/
def scores (P : FVec Ideal S3x2x16x2048x64 .f32) : FVec Ideal S2x16x2048x2048 .f32 :=
  Host.dotGeneral dot_S2x16x2048x64_S2x16x2048x64_S2x16x2048x2048_3_3_2_2_01_01 none (section0 P) (section1 P)

/-- A score is the product of a query and a key. -/
theorem scores_at (P : FVec Ideal S3x2x16x2048x64 .f32) (n : Fin 2) (h : Fin 16) (i j : Fin 2048) :
    scores P (ix4 n h i j) = ∑ e : Fin 64, P (ix5 0 n h i e) * P (ix5 1 n h j e) := by
  pointwise [scores]

/-- The largest entry of every row, started from minus infinity and compared with it once more. -/
def rowMax (S : FVec Ideal S2x16x2048x2048 .f32) : FVec Ideal S2x16x2048 .f32 :=
  maximumf (broadcastInDim S2x16x2048 ![] bcast_S_S2x16x2048 (constant S_ .f32 0xFF800000#32))
    (Host.reduce FloatOps.maximumf S (constant S_ .f32 0xFF800000#32) reducesTo_S2x16x2048x2048_S2x16x2048_d3 h_S_)

/-- The reduction of a row by the maximum, from the word of minus infinity. -/
theorem reduceMax_at (S : FVec Ideal S2x16x2048x2048 .f32) (n : Fin 2) (h : Fin 16) (i : Fin 2048) :
    Host.reduce FloatOps.maximumf S (constant S_ .f32 0xFF800000#32) reducesTo_S2x16x2048x2048_S2x16x2048_d3 h_S_
        (ix3 n h i)
      = Finset.univ.fold max (Ideal.ofBits .f32 0xFF800000#32) fun j : Fin 2048 => S (ix4 n h i j) := by
  pointwise

/-- The larger of two arrays at an index is the larger of their entries there. -/
theorem maximumf_at {s : Shape} {φ : FTy} (x y : FVec Ideal s φ) (j : s.Idx) : maximumf x y j = max (x j) (y j) := rfl

/-- The word the reference starts its maximum from is minus infinity. -/
theorem negInf : Ideal.ofBits .f32 0xFF800000#32 = (⊥ : EReal) := by
  simp [Ideal.ofBits, Ideal.ieee]

/-- A row's largest entry is its maximum started from minus infinity. -/
theorem rowMax_at (S : FVec Ideal S2x16x2048x2048 .f32) (n : Fin 2) (h : Fin 16) (i : Fin 2048) :
    rowMax S (ix3 n h i) = max ⊥ (Finset.univ.fold max ⊥ fun j : Fin 2048 => S (ix4 n h i j)) := by
  unfold rowMax
  rw [maximumf_at, reduceMax_at, negInf]
  exact congrArg (max · _) negInf

/-- The exponentials of the scores, each row shifted by `M`. -/
def shifted (S : FVec Ideal S2x16x2048x2048 .f32) (M : FVec Ideal S2x16x2048 .f32) : FVec Ideal S2x16x2048x2048 .f32 :=
  Host.exp (subf S (broadcastInDim S2x16x2048x2048 ![0, 1, 2, 3] bcast_S2x16x2048x1_S2x16x2048x2048_0_1_2_3
    (broadcastInDim S2x16x2048x1 ![0, 1, 2] bcast_S2x16x2048_S2x16x2048x1_0_1_2 M)))

/-- The weights: every row divided by its sum. -/
def weights (E : FVec Ideal S2x16x2048x2048 .f32) : FVec Ideal S2x16x2048x2048 .f32 :=
  Host.divf E (broadcastInDim S2x16x2048x2048 ![0, 1, 2, 3] bcast_S2x16x2048x1_S2x16x2048x2048_0_1_2_3
    (broadcastInDim S2x16x2048x1 ![0, 1, 2] bcast_S2x16x2048_S2x16x2048x1_0_1_2
      (Host.reduceAdd E (constant S_ .f32 0x00000000#32) reducesTo_S2x16x2048x2048_S2x16x2048_d3 h_S_)))

/-- The values averaged with the weights. -/
def averaged (A : FVec Ideal S2x16x2048x2048 .f32) (V : FVec Ideal S2x16x2048x64 .f32) : FVec Ideal S2x16x2048x64 .f32 :=
  Host.dotGeneral dot_S2x16x2048x2048_S2x16x2048x64_S2x16x2048x64_3_2_2_3_01_01 none A V

/-- The heads' outputs before the last reshape. -/
def heads (P : FVec Ideal S3x2x16x2048x64 .f32) : FVec Ideal S2x16x2048x64 .f32 :=
  averaged (weights (shifted (scores P) (rowMax (scores P)))) (section2 P)

/-- The heads' outputs at an index, over any row shift. -/
theorem averaged_at (S : FVec Ideal S2x16x2048x2048 .f32) (M : FVec Ideal S2x16x2048 .f32)
    (P : FVec Ideal S3x2x16x2048x64 .f32) (n : Fin 2) (h : Fin 16) (i : Fin 2048) (d : Fin 64) :
    averaged (weights (shifted S M)) (section2 P) (ix4 n h i d)
      = ∑ j : Fin 2048, Ideal.div (Ideal.exp (S (ix4 n h i j) - M (ix3 n h i)))
          (∑ l : Fin 2048, Ideal.exp (S (ix4 n h i l) - M (ix3 n h i))) * P (ix5 2 n h j d) := by
  pointwise [averaged, weights, shifted]

/-- With finite queries and keys, the reference's array before its last reshape is the attention of its arguments. -/
theorem heads_eq {X : FVec Ideal S2x2048x1024 .f32} {W : FVec Ideal S1024x3072 .f32} {b : FVec Ideal S3072 .f32}
    (hf : FiniteArgs X W b) (n : Fin 2) (h : Fin 16) (i : Fin 2048) (d : Fin 64) :
    heads (qkv X W b) (ix4 n h i d) = att X W b n h i d := by
  have hs : ∀ j, scores (qkv X W b) (ix4 n h i j) = score X W b n h i j := fun j => by
    rw [scores_at]; simp only [qkv_at]; rfl
  unfold heads
  rw [averaged_at, rowMax_at]
  simp only [hs, qkv_at]
  exact softmax_eq_att hf n h i d _ rfl

/-- The reference's result is the last reshape of the heads' outputs. -/
theorem res_eq (m : (ℓ : Loc nD τ sig) → Buf (Elt Ideal) ℓ) (c : Dev nD) :
    res_out0 m c = shapeCast S2x2048x1024 (heads (qkv (m ((c.tc : Thread nD τ).loc main_arg0))
      (m ((c.tc : Thread nD τ).loc main_arg1)) (m ((c.tc : Thread nD τ).loc main_arg2))))
      shapeCasts_S2x16x2048x64_S2x2048x1024 := rfl

end Cert.ReferenceIdeal.Value

end
-- ==== Proof.Finite.lean ====
/- What the precondition says: where the predicate is all ones, every number that enters a query or a key is real. -/
module

public import proofs.«01_k».proof.Proof.Gen.Pre_finite_inputs
public import proofs.«01_k».proof.Proof.Attention
public import Idealize.ShloMosaic.Lib.ReduceAll

@[expose] public section

set_option maxRecDepth 16384

noncomputable section

namespace Cert.Pre_finite_inputs.Value

open Idealize.ShloMosaic Cert.Pre_finite_inputs Cert.Pre_finite_inputs.Gen Cert.Attention Cert.Softmax

/-- A number whose absolute value is below the word of plus infinity is real. -/
theorem real_of_lt {x : EReal} (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- The array of comparisons a finiteness test reduces: the absolute value of every entry against plus infinity. -/
def tests {s : Shape} (x : FVec Ideal s .f32) (hb : S_.BroadcastsInDim s (![] : Fin 0 → Fin s.rank)) : IVec s 1 :=
  cmpf .olt (Host.absf x) (broadcastInDim s ![] hb (constant S_ .f32 0x7F800000#32))

/-- An array whose every finiteness test came out 1 has only real entries. -/
theorem real_of_tests {s : Shape} {axes : List (Fin s.rank)} (x : FVec Ideal s .f32)
    (hb : S_.BroadcastsInDim s (![] : Fin 0 → Fin s.rank)) (hr : s.ReducesTo axes S_) (j : S_.Idx)
    (h : Host.reduce IntOp.andi (tests x hb) (constantI S_ 1 1#1) hr h_S_ j = 1#1) (i : s.Idx) : IsReal (x i) :=
  haveI : Subsingleton S_.Idx := ⟨fun a b => funext fun k => k.elim0⟩
  real_of_lt (Host.reduce_andi_all _ _ hr h_S_ j h i)

/-- The test of one array: the conjunction of its entries' tests. -/
def allTests {s : Shape} {axes : List (Fin s.rank)} (x : FVec Ideal s .f32)
    (hb : S_.BroadcastsInDim s (![] : Fin 0 → Fin s.rank)) (hr : s.ReducesTo axes S_) : IVec S_ 1 :=
  Host.reduce IntOp.andi (tests x hb) (constantI S_ 1 1#1) hr h_S_

/-- The predicate is the conjunction of three arrays' tests: the tokens, and the first 2048 columns of the weights and
    of the bias. -/
theorem fn_eq (X : FVec Ideal S2x2048x1024 .f32) (W : FVec Ideal S1024x3072 .f32) (b : FVec Ideal S3072 .f32) :
    fn (F := Ideal) X W b = andi
      (andi (allTests X bcast_S_S2x2048x1024 reducesTo_S2x2048x1024_S_d0_1_2)
        (allTests (extractStridedSlice S1024x2048 ![0, 0] W slices_S1024x3072_S1024x2048_0_0) bcast_S_S1024x2048
          reducesTo_S1024x2048_S_d0_1))
      (allTests (extractStridedSlice S2048 ![0] b slices_S3072_S2048_0) bcast_S_S2048 reducesTo_S2048_S_d0) := rfl

/-- A conjunction of two bit arrays that is 1 at an index has both of them 1 there. -/
theorem andi_at {s : Shape} {p q : IVec s 1} {j : s.Idx} (h : andi p q j = 1#1) : p j = 1#1 ∧ q j = 1#1 :=
  IntOp.andi_eq_one.1 h

/-- The precondition gives finite queries and keys. -/
theorem finite_of_pre (X : FVec Ideal S2x2048x1024 .f32) (W : FVec Ideal S1024x3072 .f32) (b : FVec Ideal S3072 .f32)
    (h : fn (F := Ideal) X W b = fun _ => 1#1) : FiniteArgs X W b := by
  rw [fn_eq] at h
  obtain ⟨hxw, hb⟩ := andi_at (congrFun h ix0)
  obtain ⟨hx, hw⟩ := andi_at hxw
  refine ⟨real_of_tests _ _ _ _ hx, fun k c hc => ?_, fun c hc => ?_⟩
  · have := real_of_tests _ _ _ _ hw (ix2 k ⟨c.val, hc⟩)
    pointwise at this
    exact this
  · have := real_of_tests _ _ _ _ hb (ix1 ⟨c.val, hc⟩)
    pointwise at this
    exact this

end Cert.Pre_finite_inputs.Value

end
-- ==== Proof.Run.lean ====
/- What the idealized kernel's program leaves in its result, and its agreement with the reference. -/
module

public import proofs.«01_k».proof.Defs
public import proofs.«01_k».proof.Proof.Array
public import proofs.«01_k».proof.Proof.Ref
public import proofs.«01_k».proof.Proof.Finite
public import Idealize.ShloMosaic.Lib.Claim

@[expose] public section

noncomputable section

open Idealize.ShloMosaic Idealize.ShloMosaic.TcCoe Idealize.SL.Sem

namespace Cert.Proof

/-- From finite arguments the kernel's program and the reference both run, leave their arguments alone and end with
    the same result. -/
theorem agrees : Cert.algebraic_KernelIdeal_ReferenceIdeal_pre_finite_inputs := by
  pair_intro
  · run_from Cert.KernelIdeal.Gen.run_main m g & Cert.KernelIdeal.Gen.frame m g
    exact Cert.KernelIdeal.Gen.W_main_arg2 m _ c
  · run_from Cert.ReferenceIdeal.Value.run m' g'
    refine (Cert.ReferenceIdeal.Value.res_eq m' c).trans ?_
    rw [(hagree c).1, (hagree c).2.1, (hagree c).2.2]
    refine Eq.trans ?_ (Cert.KernelIdeal.Value.result m c).symm
    refine congrArg (fun a => shapeCast Cert.ReferenceIdeal.S2x2048x1024 a
      Cert.ReferenceIdeal.Gen.shapeCasts_S2x16x2048x64_S2x2048x1024) (funext fun j => ?_)
    idx_vars j
    exact Cert.ReferenceIdeal.Value.heads_eq (Cert.Pre_finite_inputs.Value.finite_of_pre _ _ _ (hpre c)) _ _ _ _

end Cert.Proof

end
-- ==== Proof.lean ====
/- The certificate of the attention kernel: each program runs and leaves its arguments and its semaphore counters as they
   were, and the idealized kernel computes the reference's values. The value claim is Proof/Run.lean's. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_inputs
public import proofs.«01_k».proof.Proof.Run

@[expose] public section

noncomputable section

namespace Cert.Proof

open Idealize.ShloMosaic Idealize.SL.Sem

/-- The reference runs and leaves its arguments alone; it declares no semaphore, so every counter ends at zero. -/
theorem reference_frame : Cert.quiescent_ReferenceIdeal := fun m g _ =>
  θ_run_mono (Cert.ReferenceIdeal.Value.run m g) fun r h =>
    ⟨fun c => (h c).2, sem_eq_zero_of_no_sems (by decide) r.2⟩

/-- All the claims of the certificate. -/
theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    agrees⟩

end Cert.Proof

end
